-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.Statement Cert.KernelIdeal.S32x512 Cert.KernelIdeal.S16x512
  ∧ IdealRules.bf16_pair.Statement Cert.KernelIdeal.S64x512 Cert.KernelIdeal.S32x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x1x11264 : Shape := ⟨3, ![48, 1, 11264]⟩
abbrev S5632x8192 : Shape := ⟨2, ![5632, 8192]⟩
abbrev S44x8192 : Shape := ⟨2, ![44, 8192]⟩
abbrev S352x8192 : Shape := ⟨2, ![352, 8192]⟩
abbrev S48x176x2x32 : Shape := ⟨4, ![48, 176, 2, 32]⟩
abbrev S48x176x32x2 : Shape := ⟨4, ![48, 176, 32, 2]⟩
abbrev S48x11264 : Shape := ⟨2, ![48, 11264]⟩
abbrev S48x8192 : Shape := ⟨2, ![48, 8192]⟩
abbrev S5632x512 : Shape := ⟨2, ![5632, 512]⟩
abbrev S44x512 : Shape := ⟨2, ![44, 512]⟩
abbrev S352x512 : Shape := ⟨2, ![352, 512]⟩
abbrev S48x512 : Shape := ⟨2, ![48, 512]⟩
abbrev S64x512 : Shape := ⟨2, ![64, 512]⟩
abbrev S32x512 : Shape := ⟨2, ![32, 512]⟩
abbrev S4x512 : Shape := ⟨2, ![4, 512]⟩
abbrev S4x1x512 : Shape := ⟨3, ![4, 1, 512]⟩
abbrev S4x8x512 : Shape := ⟨3, ![4, 8, 512]⟩
abbrev S16x512 : Shape := ⟨2, ![16, 512]⟩
abbrev S32x1x512 : Shape := ⟨3, ![32, 1, 512]⟩
abbrev S32x2x512 : Shape := ⟨3, ![32, 2, 512]⟩
abbrev S1x512 : Shape := ⟨2, ![1, 512]⟩
abbrev S8x512 : Shape := ⟨2, ![8, 512]⟩
abbrev S256x512 : Shape := ⟨2, ![256, 512]⟩
abbrev S48x256 : Shape := ⟨2, ![48, 256]⟩

abbrev nBuf : Space → Nat
  | .hbm => 10
  | .vmem => 13
  | .smem => 0
  | _ => 0

abbrev bufTy : (tb : Table) → Fin (tcTables nBuf tb) → BufTy
  | .hbm, ⟨0, _⟩ => ⟨S48x1x11264, .bf16⟩
  | .hbm, ⟨1, _⟩ => ⟨S5632x8192, .i8⟩
  | .hbm, ⟨2, _⟩ => ⟨S44x8192, .f16⟩
  | .hbm, ⟨3, _⟩ => ⟨S44x8192, .f16⟩
  | .hbm, ⟨4, _⟩ => ⟨S352x8192, .i8⟩
  | .hbm, ⟨5, _⟩ => ⟨S352x8192, .i8⟩
  | .hbm, ⟨6, _⟩ => ⟨S48x176x2x32, .bf16⟩
  | .hbm, ⟨7, _⟩ => ⟨S48x176x32x2, .bf16⟩
  | .hbm, ⟨8, _⟩ => ⟨S48x11264, .bf16⟩
  | .hbm, ⟨9, _⟩ => ⟨S48x8192, .bf16⟩
  | .local _ .vmem, ⟨0, _⟩ => ⟨S48x11264, .bf16⟩
  | .local _ .vmem, ⟨1, _⟩ => ⟨S5632x512, .i8⟩
  | .local _ .vmem, ⟨2, _⟩ => ⟨S5632x512, .i8⟩
  | .local _ .vmem, ⟨3, _⟩ => ⟨S44x512, .f16⟩
  | .local _ .vmem, ⟨4, _⟩ => ⟨S44x512, .f16⟩
  | .local _ .vmem, ⟨5, _⟩ => ⟨S44x512, .f16⟩
  | .local _ .vmem, ⟨6, _⟩ => ⟨S44x512, .f16⟩
  | .local _ .vmem, ⟨7, _⟩ => ⟨S352x512, .i8⟩
  | .local _ .vmem, ⟨8, _⟩ => ⟨S352x512, .i8⟩
  | .local _ .vmem, ⟨9, _⟩ => ⟨S352x512, .i8⟩
  | .local _ .vmem, ⟨10, _⟩ => ⟨S352x512, .i8⟩
  | .local _ .vmem, ⟨11, _⟩ => ⟨S48x512, .bf16⟩
  | .local _ .vmem, ⟨12, _⟩ => ⟨S48x512, .bf16⟩
  | _, _ => ⟨S48x1x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S48x11264 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5632x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S44x512 .f16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S44x512 .f16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S48x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F]
-- ==== ReferenceIdeal.lean ====
abbrev S48x1x11264 : Shape := ⟨3, ![48, 1, 11264]⟩
abbrev S5632x8192 : Shape := ⟨2, ![5632, 8192]⟩
abbrev S44x8192 : Shape := ⟨2, ![44, 8192]⟩
abbrev S352x8192 : Shape := ⟨2, ![352, 8192]⟩
abbrev S48x1x176x2x32 : Shape := ⟨5, ![48, 1, 176, 2, 32]⟩
abbrev S48x1x176x1x32 : Shape := ⟨5, ![48, 1, 176, 1, 32]⟩
abbrev S48x1x176x32 : Shape := ⟨4, ![48, 1, 176, 32]⟩
abbrev S48x5632 : Shape := ⟨2, ![48, 5632]⟩
abbrev S48x8192 : Shape := ⟨2, ![48, 8192]⟩
abbrev S176x32x8192 : Shape := ⟨3, ![176, 32, 8192]⟩
abbrev S44x1x8192 : Shape := ⟨3, ![44, 1, 8192]⟩
abbrev S44x8x8192 : Shape := ⟨3, ![44, 8, 8192]⟩
abbrev S176x2x8192 : Shape := ⟨3, ![176, 2, 8192]⟩
abbrev S176x1x8192 : Shape := ⟨3, ![176, 1, 8192]⟩
abbrev S176x8192 : Shape := ⟨2, ![176, 8192]⟩

abbrev nBuf : Space → Nat
  | .hbm => 14
  | .vmem => 8
  | .smem => 0
  | _ => 0

abbrev bufTy : (tb : Table) → Fin (tcTables nBuf tb) → BufTy
  | .hbm, ⟨0, _⟩ => ⟨S48x1x11264, .bf16⟩
  | .hbm, ⟨1, _⟩ => ⟨S5632x8192, .i8⟩
  | .hbm, ⟨2, _⟩ => ⟨S44x8192, .f16⟩
  | .hbm, ⟨3, _⟩ => ⟨S44x8192, .f16⟩
  | .hbm, ⟨4, _⟩ => ⟨S352x8192, .i8⟩
  | .hbm, ⟨5, _⟩ => ⟨S352x8192, .i8⟩
  | .hbm, ⟨6, _⟩ => ⟨S48x1x176x2x32, .bf16⟩
  | .hbm, ⟨7, _⟩ => ⟨S48x1x176x1x32, .bf16⟩
  | .hbm, ⟨8, _⟩ => ⟨S48x1x176x32, .bf16⟩
  | .hbm, ⟨9, _⟩ => ⟨S48x5632, .bf16⟩
  | .hbm, ⟨10, _⟩ => ⟨S48x1x176x1x32, .bf16⟩
  | .hbm, ⟨11, _⟩ => ⟨S48x1x176x32, .bf16⟩
  | .hbm, ⟨12, _⟩ => ⟨S48x5632, .bf16⟩
  | .hbm, ⟨13, _⟩ => ⟨S48x8192, .bf16⟩
  | .local _ .vmem, ⟨0, _⟩ => ⟨S48x5632, .bf16⟩
  | .local _ .vmem, ⟨1, _⟩ => ⟨S48x5632, .bf16⟩
  | .local _ .vmem, ⟨2, _⟩ => ⟨S5632x8192, .i8⟩
  | .local _ .vmem, ⟨3, _⟩ => ⟨S44x8192, .f16⟩
  | .local _ .vmem, ⟨4, _⟩ => ⟨S44x8192, .f16⟩
  | .local _ .vmem, ⟨5, _⟩ => ⟨S352x8192, .i8⟩
  | .local _ .vmem, ⟨6, _⟩ => ⟨S352x8192, .i8⟩
  | .local _ .vmem, ⟨7, _⟩ => ⟨S48x8192, .bf16⟩
  | _, _ => ⟨S48x1x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S48x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5632x8192 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S44x8192 .f16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S44x8192 .f16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S352x8192 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S352x8192 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S48x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Chunk.lean ====
/- ONE CHUNK OF THE WALK: the kernel's body, written once for a chunk number.

   The body is 44 copies of the same operations at 44 offsets. Here they are said once, for chunk `c`: the 256 weight
   rows (`weights`), their product with 256 columns of the activations (`chunkDot`), and the sum over the first `n`
   chunks (`accum`). `out_eq` says that the block the body stores is the narrowed sum over all 44. -/
module

public import proofs.«01_k».proof.Proof.Gen.KernelIdeal.Frame

@[expose] public section

set_option maxRecDepth 16384

noncomputable section

namespace Cert.KernelIdeal.Block

open Cert.KernelIdeal Cert.KernelIdeal.Gen Idealize.ShloMosaic Idealize.SL.Sem

variable {F : FTy → Type} [FloatOps F]

/-- The 64 rows of codes that 32 packed rows hold: row `2 a + p` is nibble `p` of packed row `a`. -/
def codes (q : Vec F S32x512 .i8) : FVec F S64x512 .bf16 :=
  sitofp .bf16 (andi (shrsi (shapeCast S64x512 (broadcastTo S32x2x512 (shapeCast S32x1x512
    (shapeCast S32x1x512 (extui 32 q natLt_8_32) shapeCasts_S32x512_S32x1x512) shapeCasts_S32x1x512_S32x1x512)
    broadcasts_S32x1x512_S32x2x512) shapeCasts_S32x2x512_S64x512) k0_pay1) (broadcast S64x512 15#32))

/-- The 32 products of a quad: four factors, each spread over eight rows, times the 32 small integers. -/
def products (v : Vec F S32x512 .i8) (d : Vec F S4x512 .f16) : FVec F S32x512 .bf16 :=
  truncf .bf16 (mulf (shapeCast S32x512 (broadcastTo S4x8x512 (shapeCast S4x1x512 (shapeCast S4x1x512
    (extf .f32 d bitsLt_f16_f32) shapeCasts_S4x512_S4x1x512) shapeCasts_S4x1x512_S4x1x512)
    broadcasts_S4x1x512_S4x8x512) shapeCasts_S4x8x512_S32x512) (extf .f32 (uitofp .bf16 v) bitsLt_bf16_f32))
    bitsLt_bf16_f32

/-- One row of packed scale products, laid 32 times. -/
def copies (x : FVec F S1x512 .bf16) : FVec F S32x512 .bf16 :=
  have y : FVec F S8x512 .bf16 := concatenate S8x512 0 [⟨S1x512, x⟩, ⟨S1x512, x⟩, ⟨S1x512, x⟩, ⟨S1x512, x⟩, ⟨S1x512, x⟩,
    ⟨S1x512, x⟩, ⟨S1x512, x⟩, ⟨S1x512, x⟩] concatenates_S1x512_S1x512_S1x512_S1x512_S1x512_S1x512_S1x512_S1x512_S8x512_d0
  concatenate S32x512 0 [⟨S8x512, y⟩, ⟨S8x512, y⟩, ⟨S8x512, y⟩, ⟨S8x512, y⟩]
    concatenates_S8x512_S8x512_S8x512_S8x512_S32x512_d0

/-- A row inside the sixteen. -/
theorem slices (r : Nat) (h : r < 16) : S16x512.Slices ![r, 0] S1x512 :=
  (by decide : ∀ r : Fin 16, S16x512.Slices ![r.val, 0] S1x512) ⟨r, h⟩

/-- Rows `2 r` and `2 r + 1` of the products, laid in turn over 64 rows. -/
def pair (r : Nat) (h : r < 16) (s : FVec F S32x512 .bf16) : FVec F S64x512 .bf16 :=
  interleaveRows S64x512
    (copies (extractStridedSlice S1x512 ![r, 0] (rowsOfParity 0 S16x512 s bitcasts_S32x512_w16_S16x512_w32) (slices r h)))
    (copies (extractStridedSlice S1x512 ![r, 0] (rowsOfParity 1 S16x512 s bitcasts_S32x512_w16_S16x512_w32) (slices r h)))
    bitcasts_S64x512_w16_S32x512_w32

/-- Sixty-four weight rows: codes times scales less offsets. -/
def piece (q : Vec F S32x512 .i8) (r : Nat) (h : r < 16) (s o : FVec F S32x512 .bf16) : FVec F S64x512 .bf16 :=
  subf (mulf (codes q) (pair r h s)) (pair r h o)

/-- `n` rows from row `o` of a 512-wide block lie inside it. -/
theorem inb_rows {n N : Nat} (o : Nat) (h : o + n ≤ N) :
    ∀ a, (![o, 0] : Fin 2 → Nat) a + (⟨2, ![n, 512]⟩ : Shape).size a ≤ (⟨2, ![N, 512]⟩ : Shape).size a := fun a => by
  match a with
  | ⟨0, _⟩ => exact h
  | ⟨1, _⟩ => exact le_refl 512

/-- 256 columns from column `o` of the activations lie inside them. -/
theorem inb_cols (o : Nat) (h : o + 256 ≤ 11264) :
    ∀ a, (![0, o] : Fin 2 → Nat) a + S48x256.size a ≤ S48x11264.size a := fun a => by
  match a with
  | ⟨0, _⟩ => exact le_refl 48
  | ⟨1, _⟩ => exact h

/-- The 32 packed rows of group `g` of chunk `c`. -/
def rowsQ (x1 : Vec F S5632x512 .i8) (o : Nat) (h : o + 32 ≤ 5632) : Vec F S32x512 .i8 :=
  View.ld x1 (Rect.unit (s := S5632x512) ![o, 0] S32x512.size (inb_rows o h))

/-- The products of the quad `u`. -/
def quad (v : Vec F S352x512 .i8) (d : Vec F S44x512 .f16) (u : Nat) (h : u < 11) : FVec F S32x512 .bf16 :=
  products (View.ld v (Rect.unit (s := S352x512) ![32 * u, 0] S32x512.size (inb_rows (32 * u) (by omega))))
    (View.ld d (Rect.unit (s := S44x512) ![4 * u, 0] S4x512.size (inb_rows (4 * u) (by omega))))

/-- The 256 weight rows of chunk `c`. -/
def weights (x1 : Vec F S5632x512 .i8) (x2 x3 : Vec F S44x512 .f16) (x4 x5 : Vec F S352x512 .i8) (c : Nat) (h : c < 44) :
    FVec F S256x512 .bf16 :=
  have s := quad x4 x2 (c / 4) (by omega)
  have o := quad x5 x3 (c / 4) (by omega)
  concatenate S256x512 0
    [⟨S64x512, piece (rowsQ x1 (128 * c) (by omega)) (c % 4 * 4) (by omega) s o⟩,
     ⟨S64x512, piece (rowsQ x1 (128 * c + 32) (by omega)) (c % 4 * 4 + 1) (by omega) s o⟩,
     ⟨S64x512, piece (rowsQ x1 (128 * c + 64) (by omega)) (c % 4 * 4 + 2) (by omega) s o⟩,
     ⟨S64x512, piece (rowsQ x1 (128 * c + 96) (by omega)) (c % 4 * 4 + 3) (by omega) s o⟩]
    concatenates_S64x512_S64x512_S64x512_S64x512_S256x512_d0

/-- Chunk `c`'s share of the block: 256 columns of the activations against the 256 weight rows. -/
def chunkDot (x0 : Vec F S48x11264 .bf16) (x1 : Vec F S5632x512 .i8) (x2 x3 : Vec F S44x512 .f16)
    (x4 x5 : Vec F S352x512 .i8) (c : Nat) (h : c < 44) : FVec F S48x512 .f32 :=
  matmul dot_S48x256_S256x512_S48x512_1_0_0_1_n_n none
    (shapeCast S48x256 (View.ld x0 (Rect.unit (s := S48x11264) ![0, 256 * c] S48x256.size (inb_cols (256 * c) (by omega))))
      shapeCasts_S48x256_S48x256)
    (weights x1 x2 x3 x4 x5 c h) (constant S48x512 .f32 0x00000000#32)

/-- The sum over the first `n` chunks. -/
def accum (x0 : Vec F S48x11264 .bf16) (x1 : Vec F S5632x512 .i8) (x2 x3 : Vec F S44x512 .f16)
    (x4 x5 : Vec F S352x512 .i8) : (n : Nat) → n ≤ 44 → FVec F S48x512 .f32
  | 0, _ => k0_pay2
  | n + 1, h => addf (accum x0 x1 x2 x3 x4 x5 n (Nat.le_of_succ_le h)) (chunkDot x0 x1 x2 x3 x4 x5 n h)

set_option maxHeartbeats 0 in
/-- WHAT ONE BLOCK COMPUTES: the stored block is the sum over all 44 chunks, narrowed. -/
theorem out_eq (x0 : Vec F S48x11264 .bf16) (x1 : Vec F S5632x512 .i8) (x2 x3 : Vec F S44x512 .f16)
    (x4 x5 : Vec F S352x512 .i8) :
    out0_6 x0 x1 x2 x3 x4 x5
      = View.canon [⟨r0_242, truncf .bf16 (accum x0 x1 x2 x3 x4 x5 44 (le_refl 44)) bitsLt_bf16_f32⟩] := by
  rfl

end Cert.KernelIdeal.Block

end
-- ==== Proof.Spec.lean ====
/- THE COLUMN BOTH PROGRAMS COMPUTE, apart from any program: one weight of a Q4_K column (`weight`), and the two ways of
   adding up a product of a row of activations with the column (`sum_chunks`, `sum_even_odd`). -/
module

public import Idealize.ShloMosaic.Lib.Pointwise

@[expose] public section

noncomputable section

namespace Cert.Q4

open Idealize.ShloMosaic

/-- Nibble `p` of a byte, as a number: the low four bits, or the byte shifted right by four. -/
def nib (v : BitVec 8) (p : Fin 2) : Ideal .bf16 :=
  FloatOps.sitofp .bf16 (if p = 0 then IntOp.andi (v.setWidth 32) 15#32 else IntOp.shrsi .vector (v.setWidth 32) 4#32)

/-- A small unsigned integer, as a number. -/
def num (v : BitVec 8) : Ideal .bf16 := FloatOps.uitofp .bf16 v

/-- The weight that nibble `p` of packed row `K` stands for: code times scale less offset, where the scale and the
    offset are those of sub-block `2 (K / 32) + p`, eight sub-blocks to a super-block. -/
def weight (q : Fin 5632 → BitVec 8) (d m : Fin 44 → EReal) (s o : Fin 352 → BitVec 8) (K : Fin 5632) (p : Fin 2) : EReal :=
  nib (q K) p * (d ⟨(2 * (K.val / 32) + p.val) / 8, by omega⟩ * num (s ⟨2 * (K.val / 32) + p.val, by omega⟩))
    - m ⟨(2 * (K.val / 32) + p.val) / 8, by omega⟩ * num (o ⟨2 * (K.val / 32) + p.val, by omega⟩)

/-- A weight read at rows given in any other spelling. -/
theorem eq_weight (q : Fin 5632 → BitVec 8) (d m : Fin 44 → EReal) (s o : Fin 352 → BitVec 8) (K : Fin 5632) (p : Fin 2)
    (K' : Fin 5632) (p' : Fin 2) (u u' : Fin 44) (r r' : Fin 352) (hK : K'.val = K.val) (hp : p'.val = p.val)
    (hu : u.val = (2 * (K.val / 32) + p.val) / 8) (hu' : u'.val = (2 * (K.val / 32) + p.val) / 8)
    (hr : r.val = 2 * (K.val / 32) + p.val) (hr' : r'.val = 2 * (K.val / 32) + p.val) :
    nib (q K') p' * (d u * num (s r)) - m u' * num (o r') = weight q d m s o K p := by
  have eu : u = ⟨(2 * (K.val / 32) + p.val) / 8, by omega⟩ := Fin.ext hu
  have eu' : u' = ⟨(2 * (K.val / 32) + p.val) / 8, by omega⟩ := Fin.ext hu'
  have er : r = ⟨2 * (K.val / 32) + p.val, by omega⟩ := Fin.ext hr
  have er' : r' = ⟨2 * (K.val / 32) + p.val, by omega⟩ := Fin.ext hr'
  simp only [Fin.ext hK, Fin.ext hp, eu, eu', er, er', weight]

/-- The place, in the activations' own order, of the unpacked row `64 G + 2 a + p`: `64 G + 32 p + a`. -/
def depth (k : Fin 11264) : Fin 11264 := ⟨64 * (k.val / 64) + 32 * (k.val % 2) + k.val % 64 / 2, by omega⟩

/-- The term of depth `k` in a product of a row of activations with a column of weights (zero past the depth). -/
def term (x : Fin 11264 → EReal) (q : Fin 5632 → BitVec 8) (d m : Fin 44 → EReal) (s o : Fin 352 → BitVec 8) (k : ℕ) : EReal :=
  if h : k < 11264 then x ⟨k, h⟩ * weight q d m s o ⟨k / 2, by omega⟩ ⟨k % 2, by omega⟩ else 0

/-- The product of a row of activations (in the order of the unpacked rows) with a column of weights. -/
def column (x : Fin 11264 → EReal) (q : Fin 5632 → BitVec 8) (d m : Fin 44 → EReal) (s o : Fin 352 → BitVec 8) : EReal :=
  ∑ k ∈ Finset.range 11264, term x q d m s o k

/-- Adding one more run of `n` terms to a sum over the first `o` terms gives the sum over the first `o + n`. -/
theorem sum_chunk (f : ℕ → EReal) (o n : ℕ) :
    ∑ k ∈ Finset.range o, f k + ∑ i : Fin n, f (o + i.val) = ∑ k ∈ Finset.range (o + n), f k := by
  rw [Finset.sum_range_add, Finset.sum_range (fun i => f (o + i))]

/-- The first `2 n` terms are the first `n` even ones and the first `n` odd ones. -/
theorem sum_even_odd (f : ℕ → EReal) (n : ℕ) :
    ∑ k ∈ Finset.range (2 * n), f k
      = ∑ i ∈ Finset.range n, f (2 * i) + ∑ i ∈ Finset.range n, f (2 * i + 1) := by
  induction n with
  | zero => simp
  | succ n ih =>
    rw [Nat.mul_succ, Finset.sum_range_succ, Finset.sum_range_succ, ih, Finset.sum_range_succ, Finset.sum_range_succ]
    abel

/-- The same over bounded indices. -/
theorem sum_even_odd_fin (f : ℕ → EReal) (n : ℕ) :
    ∑ k ∈ Finset.range (2 * n), f k = ∑ i : Fin n, f (2 * i.val) + ∑ i : Fin n, f (2 * i.val + 1) := by
  rw [sum_even_odd, Finset.sum_range, Finset.sum_range (fun i => f (2 * i + 1))]

/-- THE EQUATION: the product is the dot over the low nibbles plus the dot over the high ones. -/
theorem column_halves (x : Fin 11264 → EReal) (q : Fin 5632 → BitVec 8) (d m : Fin 44 → EReal) (s o : Fin 352 → BitVec 8) :
    column x q d m s o
      = ∑ K : Fin 5632, x ⟨2 * K.val, by omega⟩ * weight q d m s o K 0
        + ∑ K : Fin 5632, x ⟨2 * K.val + 1, by omega⟩ * weight q d m s o K 1 := by
  refine (sum_even_odd_fin (term x q d m s o) 5632).trans ?_
  refine congrArg₂ (· + ·) (Finset.sum_congr rfl fun K _ => ?_) (Finset.sum_congr rfl fun K _ => ?_)
  · have e : (⟨2 * K.val / 2, by omega⟩ : Fin 5632) = K := Fin.ext (by dsimp only; omega)
    have e' : (⟨2 * K.val % 2, by omega⟩ : Fin 2) = 0 := Fin.ext (by show 2 * K.val % 2 = 0; omega)
    rw [term, dif_pos (by omega), e, e']
  · have e : (⟨(2 * K.val + 1) / 2, by omega⟩ : Fin 5632) = K := Fin.ext (by dsimp only; omega)
    have e' : (⟨(2 * K.val + 1) % 2, by omega⟩ : Fin 2) = 1 := Fin.ext (by show (2 * K.val + 1) % 2 = 1; omega)
    rw [term, dif_pos (by omega), e, e']

end Cert.Q4

end
-- ==== Proof.Block.lean ====
/- WHAT ONE BLOCK HOLDS, entry by entry: the chunk's operations read at an index, and the walk over the chunks as one sum. -/
module

public import proofs.«01_k».proof.Proof.Chunk
public import proofs.«01_k».proof.Proof.Spec
public import Idealize.ShloMosaic.Lib.Pipeline.Value

@[expose] public section

set_option maxRecDepth 16384

noncomputable section

namespace Cert.KernelIdeal.Block

open Cert.KernelIdeal Cert.KernelIdeal.Gen Idealize.ShloMosaic Idealize.SL.Sem Cert.Q4

/-- Every copy of a row is that row. -/
theorem copies_apply (x : FVec Ideal S1x512 .bf16) (a : Fin 32) (j : Fin 512) : copies x (ix2 a j) = x (ix2 0 j) := by
  have hy : ∀ b : Fin 8, concatenate S8x512 0 [⟨S1x512, x⟩, ⟨S1x512, x⟩, ⟨S1x512, x⟩, ⟨S1x512, x⟩, ⟨S1x512, x⟩,
      ⟨S1x512, x⟩, ⟨S1x512, x⟩, ⟨S1x512, x⟩]
      concatenates_S1x512_S1x512_S1x512_S1x512_S1x512_S1x512_S1x512_S1x512_S8x512_d0 (ix2 b j) = x (ix2 0 j) := fun b => by
    pointwise []
    split_ifs <;> exact congrArg x (congrArg (ix2 · j) (Subsingleton.elim _ _))
  unfold copies
  generalize concatenate S8x512 0 [⟨S1x512, x⟩, ⟨S1x512, x⟩, ⟨S1x512, x⟩, ⟨S1x512, x⟩, ⟨S1x512, x⟩,
      ⟨S1x512, x⟩, ⟨S1x512, x⟩, ⟨S1x512, x⟩]
      concatenates_S1x512_S1x512_S1x512_S1x512_S1x512_S1x512_S1x512_S1x512_S8x512_d0 = y at hy
  pointwise [hy]
  split_ifs <;> rfl

/-- Row `a` of a laid-out pair is row `2 r + a % 2` of the products. -/
theorem pair_apply (r : Nat) (h : r < 16) (s : FVec Ideal S32x512 .bf16) (a : Fin 64) (j : Fin 512) :
    pair r h s (ix2 a j) = s (ix2 ⟨2 * r + a.val % 2, by omega⟩ j) := by
  pointwise [pair, copies_apply]
  split
  · next e => exact congrArg s (congrArg (ix2 · j) (Fin.ext (by simp [e])))
  · next e => exact congrArg s (congrArg (ix2 · j) (Fin.ext (by show 2 * r + 1 = 2 * r + a.val % 2; omega)))

/-- The kernel's shift and mask at row `a` pick nibble `a % 2`. -/
theorem nib_bits : ∀ (a : Fin 64) (v : BitVec 8),
    IntOp.andi (IntOp.shrsi ArithUnit.vector (v.setWidth 32) (IntOp.muli (IntOp.andi (BitVec.ofNat 32 a.val) 1#32) 4#32)) 15#32
      = if (⟨a.val % 2, by omega⟩ : Fin 2) = 0 then IntOp.andi (v.setWidth 32) 15#32
        else IntOp.shrsi .vector (v.setWidth 32) 4#32 := by
  decide +kernel

/-- Row `a` of the codes is nibble `a % 2` of packed row `a / 2`. -/
theorem codes_apply (q : Vec Ideal S32x512 .i8) (a : Fin 64) (j : Fin 512) :
    codes q (ix2 a j) = nib (q (ix2 ⟨a.val / 2, by omega⟩ j)) ⟨a.val % 2, by omega⟩ := by
  pointwise [codes, k0_pay1, nib]
  rw [nib_bits]

/-- Product `R` of quad `u` is factor `4 u + R / 8` times integer `32 u + R`. -/
theorem quad_apply (v : Vec Ideal S352x512 .i8) (d : Vec Ideal S44x512 .f16) (u : Nat) (h : u < 11) (R : Fin 32)
    (j : Fin 512) :
    quad v d u h (ix2 R j)
      = d (ix2 ⟨4 * u + R.val / 8, by omega⟩ j) * num (v (ix2 ⟨32 * u + R.val, by omega⟩ j)) := by
  pointwise [quad, products, num]

/-- Row `a` of chunk `c`'s weights is the weight of nibble `a % 2` of packed row `128 c + a / 2`. -/
theorem weights_apply (x1 : Vec Ideal S5632x512 .i8) (x2 x3 : Vec Ideal S44x512 .f16)
    (x4 x5 : Vec Ideal S352x512 .i8) (c : Nat) (h : c < 44) (a : Fin 256) (j : Fin 512) :
    weights x1 x2 x3 x4 x5 c h (ix2 a j)
      = weight (fun i => x1 (ix2 i j)) (fun i => x2 (ix2 i j)) (fun i => x3 (ix2 i j)) (fun i => x4 (ix2 i j))
          (fun i => x5 (ix2 i j)) ⟨(256 * c + a.val) / 2, by omega⟩ ⟨(256 * c + a.val) % 2, by omega⟩ := by
  pointwise [weights, piece, rowsQ, pair_apply, quad_apply, codes_apply]
  split_ifs
  all_goals
    refine eq_weight (fun i => x1 (ix2 i j)) (fun i => x2 (ix2 i j)) (fun i => x3 (ix2 i j)) (fun i => x4 (ix2 i j))
      (fun i => x5 (ix2 i j)) _ _ _ _ _ _ _ _ ?_ ?_ ?_ ?_ ?_ ?_ <;> dsimp only <;> omega

/-- Chunk `c`'s share is the sum of its 256 terms. -/
theorem chunkDot_apply (x0 : Vec Ideal S48x11264 .bf16) (x1 : Vec Ideal S5632x512 .i8) (x2 x3 : Vec Ideal S44x512 .f16)
    (x4 x5 : Vec Ideal S352x512 .i8) (c : Nat) (h : c < 44) (b : Fin 48) (j : Fin 512) :
    chunkDot x0 x1 x2 x3 x4 x5 c h (ix2 b j)
      = ∑ i : Fin 256, term (fun k => x0 (ix2 b k)) (fun i => x1 (ix2 i j)) (fun i => x2 (ix2 i j)) (fun i => x3 (ix2 i j))
          (fun i => x4 (ix2 i j)) (fun i => x5 (ix2 i j)) (256 * c + i.val) := by
  pointwise [chunkDot, weights_apply]
  refine Finset.sum_congr rfl fun i _ => ?_
  rw [term, dif_pos (by omega)]

/-- The sum over the first `n` chunks is the sum of the first `256 n` terms. -/
theorem accum_apply (x0 : Vec Ideal S48x11264 .bf16) (x1 : Vec Ideal S5632x512 .i8) (x2 x3 : Vec Ideal S44x512 .f16)
    (x4 x5 : Vec Ideal S352x512 .i8) (b : Fin 48) (j : Fin 512) : ∀ (n : Nat) (h : n ≤ 44),
    accum x0 x1 x2 x3 x4 x5 n h (ix2 b j)
      = ∑ k ∈ Finset.range (256 * n), term (fun k => x0 (ix2 b k)) (fun i => x1 (ix2 i j)) (fun i => x2 (ix2 i j))
          (fun i => x3 (ix2 i j)) (fun i => x4 (ix2 i j)) (fun i => x5 (ix2 i j)) k
  | 0, _ => by
    pointwise [accum, k0_pay2]
    exact Finset.sum_range_zero _ |>.symm
  | n + 1, h => by
    pointwise [accum]
    rw [accum_apply x0 x1 x2 x3 x4 x5 b j n, chunkDot_apply, Nat.mul_succ, ← sum_chunk]

/-- WHAT ONE BLOCK HOLDS: row `b`, column `j` of the stored block is the whole sum of terms. -/
theorem out_apply (x0 : Vec Ideal S48x11264 .bf16) (x1 : Vec Ideal S5632x512 .i8) (x2 x3 : Vec Ideal S44x512 .f16)
    (x4 x5 : Vec Ideal S352x512 .i8) (b : Fin 48) (j : Fin 512) :
    out0_6 x0 x1 x2 x3 x4 x5 (ix2 b j)
      = column (fun k => x0 (ix2 b k)) (fun i => x1 (ix2 i j)) (fun i => x2 (ix2 i j)) (fun i => x3 (ix2 i j))
          (fun i => x4 (ix2 i j)) (fun i => x5 (ix2 i j)) := by
  rw [out_eq, View.canon_unit_zero (by decide)]
  exact accum_apply x0 x1 x2 x3 x4 x5 b j 44 (le_refl 44)

end Cert.KernelIdeal.Block

end
-- ==== Proof.Array.lean ====
/- WHAT THE KERNEL'S ARRAY HOLDS: the sixteen blocks put together, and the host's reordering of the activations. -/
module

public import proofs.«01_k».proof.Proof.Block
public import proofs.«01_k».proof.Proof.Gen.KernelIdeal.Value
public import Idealize.ShloMosaic.Lib.Pipeline.ValueKit
public import Idealize.ShloMosaic.Lib.Claim

@[expose] public section

set_option maxRecDepth 16384

noncomputable section

namespace Cert.KernelIdeal.Array

open Cert.KernelIdeal Cert.KernelIdeal.Gen Cert.KernelIdeal.Block Cert.Q4
open Idealize.ShloMosaic Idealize.ShloMosaic.TcCoe Idealize.SL.Sem
open Idealize.ShloMosaic.Pipeline (Dat)

variable (m : (ℓ : Loc nD τ sig) → Buf (Elt Ideal) ℓ)

/-- Where each point's blocks lie: the activations whole, every other window at column block `t`. -/
theorem idx : ∀ t : Fin cfg0.N,
    (win0_0.index t 0 = 0 ∧ win0_0.index t 1 = 0) ∧ (win0_1.index t 0 = 0 ∧ win0_1.index t 1 = t.val)
    ∧ (win0_2.index t 0 = 0 ∧ win0_2.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val)
    ∧ (win0_6.index t 0 = 0 ∧ win0_6.index t 1 = t.val) :=
  (by decide +kernel : ∀ t : Fin grid0.N,
    (win0_0.index t 0 = 0 ∧ win0_0.index t 1 = 0) ∧ (win0_1.index t 0 = 0 ∧ win0_1.index t 1 = t.val)
    ∧ (win0_2.index t 0 = 0 ∧ win0_2.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val)
    ∧ (win0_6.index t 0 = 0 ∧ win0_6.index t 1 = t.val))

/-- There are sixteen points. -/
theorem lt_16 (t : Fin cfg0.N) : t.val < 16 := t.isLt.trans_eq N_0

/-- The activations as the kernel is given them: depth `64 G + 2 a + p` holds depth `64 G + 32 p + a`. -/
theorem x_apply (c : Dev nD) (b : Fin 48) (k : Fin 11264) :
    V m c main_v2 (ix2 b k) = m ((c : Thread nD τ).loc main_arg0) (ix3 b 0 (depth k)) := by
  entry_read
  pointwise []
  refine congrArg (fun i => m (c, Proc.tc.devRef main_arg0) (ix3 b 0 i)) (Fin.ext ?_)
  simp only [depth]
  omega

/-- Every point is given the whole of the reordered activations. -/
theorem blk0 (c : Dev nD) (t : Fin cfg0.N) (b : Fin 48) (k : Fin 11264) :
    iblk m c 0 t (ix2 b k) = m ((c : Thread nD τ).loc main_arg0) (ix3 b 0 (depth k)) := by
  rw [← x_apply m c b k]
  have := idx t
  blk_ext [iblk, this]

/-- Column `j` of point `t`'s block is column `512 t + j` of the array. -/
abbrev col (t : Fin cfg0.N) (j : Fin 512) : Fin 8192 := ⟨512 * t.val + j.val, by have := lt_16 t; omega⟩

/-- Point `t`'s codes are columns `512 t …` of the packed rows. -/
theorem blk1 (c : Dev nD) (t : Fin cfg0.N) (i : Fin 5632) (j : Fin 512) :
    iblk m c 1 t (ix2 i j) = m ((c : Thread nD τ).loc main_arg1) (ix2 i (col t j)) := by
  have := idx t
  blk_ext [iblk, V, this]

/-- and so for the scales' factors, -/
theorem blk2 (c : Dev nD) (t : Fin cfg0.N) (i : Fin 44) (j : Fin 512) :
    iblk m c 2 t (ix2 i j) = m ((c : Thread nD τ).loc main_arg2) (ix2 i (col t j)) := by
  have := idx t
  blk_ext [iblk, V, this]

/-- the offsets' factors, -/
theorem blk3 (c : Dev nD) (t : Fin cfg0.N) (i : Fin 44) (j : Fin 512) :
    iblk m c 3 t (ix2 i j) = m ((c : Thread nD τ).loc main_arg3) (ix2 i (col t j)) := by
  have := idx t
  blk_ext [iblk, V, this]

/-- the scales' integers, -/
theorem blk4 (c : Dev nD) (t : Fin cfg0.N) (i : Fin 352) (j : Fin 512) :
    iblk m c 4 t (ix2 i j) = m ((c : Thread nD τ).loc main_arg4) (ix2 i (col t j)) := by
  have := idx t
  blk_ext [iblk, V, this]

/-- and the offsets' integers. -/
theorem blk5 (c : Dev nD) (t : Fin cfg0.N) (i : Fin 352) (j : Fin 512) :
    iblk m c 5 t (ix2 i j) = m ((c : Thread nD τ).loc main_arg5) (ix2 i (col t j)) := by
  have := idx t
  blk_ext [iblk, V, this]

/-- The whole product of device `c`'s arguments: what the result array is shown to hold. -/
def product (c : Dev nD) : Buf (Elt Ideal) ((c : Thread nD τ).loc main_v3) := fun i =>
  column (fun k => m ((c : Thread nD τ).loc main_arg0) (ix3 (i 0) 0 (depth k)))
    (fun r => m ((c : Thread nD τ).loc main_arg1) (ix2 r (i 1))) (fun r => m ((c : Thread nD τ).loc main_arg2) (ix2 r (i 1)))
    (fun r => m ((c : Thread nD τ).loc main_arg3) (ix2 r (i 1))) (fun r => m ((c : Thread nD τ).loc main_arg4) (ix2 r (i 1)))
    (fun r => m ((c : Thread nD τ).loc main_arg5) (ix2 r (i 1)))

/-- Column `j` of what point `t` stores is column `512 t + j` of the product. -/
theorem point (c : Dev nD) (t : Fin cfg0.N) (b : Fin 48) (j : Fin 512) :
    out0_6 (iblk m c 0 t) (iblk m c 1 t) (iblk m c 2 t) (iblk m c 3 t) (iblk m c 4 t) (iblk m c 5 t) (ix2 b j)
      = product m c (ix2 b (col t j)) := by
  rw [out_apply]
  simp only [blk0, blk1, blk2, blk3, blk4, blk5]
  rfl

/-- THE RESULT ARRAY ends holding the product: the sixteen column blocks tile it. -/
theorem final (c : Dev nD) : (dats m 0 c).arrAt 6 cfg0.N = product m c := by
  refine (dats m 0 c).arrAt_eq_of_covers 6 _ (by decide +kernel) fun t hf y => ?_
  blk_simp
  rw [after0_6]
  obtain ⟨b, j, rfl⟩ : ∃ b j, y = ix2 b j := ⟨y 0, y 1, (eq_ix2 y)⟩
  refine (point m c t b j).trans (congrArg (product m c) ?_)
  have := idx t
  blk_ext [this]

end Cert.KernelIdeal.Array

end
-- ==== Proof.Reference.lean ====
/- WHAT THE REFERENCE COMPUTES: two whole dots, one over the low nibbles and one over the high nibbles, added. -/
module

public import proofs.«01_k».proof.Proof.Spec
public import proofs.«01_k».proof.Proof.Gen.ReferenceIdeal.Value
public import Idealize.ShloMosaic.Lib.Pipeline.ValueKit
public import Idealize.ShloMosaic.Lib.Claim

@[expose] public section

set_option maxRecDepth 16384

noncomputable section

namespace Cert.ReferenceIdeal.Whole

open Cert.ReferenceIdeal Cert.ReferenceIdeal.Gen Cert.Q4
open Idealize.ShloMosaic Idealize.ShloMosaic.TcCoe Idealize.SL.Sem
open Idealize.ShloMosaic.Pipeline (Dat)

/-- Row `K` of the low weights. -/
theorem low_apply (q : Vec Ideal S5632x8192 .i8) (d m : Vec Ideal S44x8192 .f16) (s o : Vec Ideal S352x8192 .i8)
    (K : Fin 5632) (j : Fin 8192) :
    k0_pay5 q d m s o (ix2 K j)
      = weight (fun i => q (ix2 i j)) (fun i => d (ix2 i j)) (fun i => m (ix2 i j)) (fun i => s (ix2 i j))
          (fun i => o (ix2 i j)) K 0 := by
  pointwise [k0_pay5, k0_pay2, k0_pay3, k0_pay4]
  exact eq_weight (fun i => q (ix2 i j)) (fun i => d (ix2 i j)) (fun i => m (ix2 i j)) (fun i => s (ix2 i j))
    (fun i => o (ix2 i j)) K 0 K 0 _ _ _ _ rfl rfl (by dsimp only; omega) (by dsimp only; omega)
    (by dsimp only; omega) (by dsimp only; omega)

/-- Row `K` of the high weights. -/
theorem high_apply (q : Vec Ideal S5632x8192 .i8) (d m : Vec Ideal S44x8192 .f16) (s o : Vec Ideal S352x8192 .i8)
    (K : Fin 5632) (j : Fin 8192) :
    shapeCast S5632x8192 (subf (k0_pay6 q d s) (broadcastTo S176x32x8192 (k0_pay7 m o) broadcasts_S176x1x8192_S176x32x8192))
        shapeCasts_S176x32x8192_S5632x8192 (ix2 K j)
      = weight (fun i => q (ix2 i j)) (fun i => d (ix2 i j)) (fun i => m (ix2 i j)) (fun i => s (ix2 i j))
          (fun i => o (ix2 i j)) K 1 := by
  pointwise [k0_pay6, k0_pay7, k0_pay2, k0_pay3, k0_pay4]
  exact eq_weight (fun i => q (ix2 i j)) (fun i => d (ix2 i j)) (fun i => m (ix2 i j)) (fun i => s (ix2 i j))
    (fun i => o (ix2 i j)) K 1 K 1 _ _ _ _ rfl rfl (by dsimp only; omega) (by dsimp only; omega)
    (by dsimp only; omega) (by dsimp only; omega)

/-- What is stored is the sum of the two dots. -/
theorem pay1_apply (low : FVec Ideal S5632x8192 .bf16) (p : FVec Ideal S176x32x8192 .bf16) (o : FVec Ideal S176x1x8192 .bf16)
    (xl xh : Vec Ideal S48x5632 .bf16) (b : Fin 48) (j : Fin 8192) :
    k0_pay1 low p o xl xh (ix2 b j)
      = ∑ K : Fin 5632, xl (ix2 b K) * low (ix2 K j)
        + ∑ K : Fin 5632, xh (ix2 b K) * shapeCast S5632x8192 (subf p (broadcastTo S176x32x8192 o
            broadcasts_S176x1x8192_S176x32x8192)) shapeCasts_S176x32x8192_S5632x8192 (ix2 K j) := by
  pointwise [k0_pay1]

variable (m : (ℓ : Loc nD τ sig) → Buf (Elt Ideal) ℓ)

/-- The low half of the activations, at the places of the even unpacked rows, -/
theorem lo_apply (c : Dev nD) (b : Fin 48) (K : Fin 5632) :
    V m c main_v3 (ix2 b K) = m ((c : Thread nD τ).loc main_arg0) (ix3 b 0 (depth ⟨2 * K.val, by omega⟩)) := by
  entry_read
  pointwise []
  refine congrArg (fun i => m (c, Proc.tc.devRef main_arg0) (ix3 b 0 i)) (Fin.ext ?_)
  simp only [depth]
  omega

/-- and the high half, at those of the odd ones. -/
theorem hi_apply (c : Dev nD) (b : Fin 48) (K : Fin 5632) :
    V m c main_v6 (ix2 b K) = m ((c : Thread nD τ).loc main_arg0) (ix3 b 0 (depth ⟨2 * K.val + 1, by omega⟩)) := by
  entry_read
  pointwise []
  refine congrArg (fun i => m (c, Proc.tc.devRef main_arg0) (ix3 b 0 i)) (Fin.ext ?_)
  simp only [depth]
  omega

/-- The one point's blocks are the whole arrays. -/
theorem idx : ∀ t : Fin cfg0.N, (∀ a, win0_0.index t a = 0) ∧ (∀ a, win0_1.index t a = 0) ∧ (∀ a, win0_2.index t a = 0)
    ∧ (∀ a, win0_3.index t a = 0) ∧ (∀ a, win0_4.index t a = 0) ∧ (∀ a, win0_5.index t a = 0)
    ∧ (∀ a, win0_6.index t a = 0) ∧ (∀ a, win0_7.index t a = 0) :=
  (by decide +kernel : ∀ t : Fin grid0.N, (∀ a, win0_0.index t a = 0) ∧ (∀ a, win0_1.index t a = 0) ∧ (∀ a, win0_2.index t a = 0)
    ∧ (∀ a, win0_3.index t a = 0) ∧ (∀ a, win0_4.index t a = 0) ∧ (∀ a, win0_5.index t a = 0)
    ∧ (∀ a, win0_6.index t a = 0) ∧ (∀ a, win0_7.index t a = 0))

/-- The low half as the body reads it, -/
theorem blk0 (c : Dev nD) (t : Fin cfg0.N) (b : Fin 48) (K : Fin 5632) :
    iblk m c 0 t (ix2 b K) = m ((c : Thread nD τ).loc main_arg0) (ix3 b 0 (depth ⟨2 * K.val, by omega⟩)) := by
  rw [← lo_apply m c b K]
  have := idx t
  blk_ext [iblk, this]

/-- the high half, -/
theorem blk1 (c : Dev nD) (t : Fin cfg0.N) (b : Fin 48) (K : Fin 5632) :
    iblk m c 1 t (ix2 b K) = m ((c : Thread nD τ).loc main_arg0) (ix3 b 0 (depth ⟨2 * K.val + 1, by omega⟩)) := by
  rw [← hi_apply m c b K]
  have := idx t
  blk_ext [iblk, this]

/-- the packed rows, -/
theorem blk2 (c : Dev nD) (t : Fin cfg0.N) (i : Fin 5632) (j : Fin 8192) :
    iblk m c 2 t (ix2 i j) = m ((c : Thread nD τ).loc main_arg1) (ix2 i j) := by
  have := idx t
  blk_ext [iblk, V, this]

/-- the scales' factors, -/
theorem blk3 (c : Dev nD) (t : Fin cfg0.N) (i : Fin 44) (j : Fin 8192) :
    iblk m c 3 t (ix2 i j) = m ((c : Thread nD τ).loc main_arg2) (ix2 i j) := by
  have := idx t
  blk_ext [iblk, V, this]

/-- the offsets' factors, -/
theorem blk4 (c : Dev nD) (t : Fin cfg0.N) (i : Fin 44) (j : Fin 8192) :
    iblk m c 4 t (ix2 i j) = m ((c : Thread nD τ).loc main_arg3) (ix2 i j) := by
  have := idx t
  blk_ext [iblk, V, this]

/-- the scales' integers, -/
theorem blk5 (c : Dev nD) (t : Fin cfg0.N) (i : Fin 352) (j : Fin 8192) :
    iblk m c 5 t (ix2 i j) = m ((c : Thread nD τ).loc main_arg4) (ix2 i j) := by
  have := idx t
  blk_ext [iblk, V, this]

/-- and the offsets' integers. -/
theorem blk6 (c : Dev nD) (t : Fin cfg0.N) (i : Fin 352) (j : Fin 8192) :
    iblk m c 6 t (ix2 i j) = m ((c : Thread nD τ).loc main_arg5) (ix2 i j) := by
  have := idx t
  blk_ext [iblk, V, this]

/-- The whole product of device `c`'s arguments: what the result array is shown to hold. -/
def product (c : Dev nD) : Buf (Elt Ideal) ((c : Thread nD τ).loc main_v7) := fun i =>
  column (fun k => m ((c : Thread nD τ).loc main_arg0) (ix3 (i 0) 0 (depth k)))
    (fun r => m ((c : Thread nD τ).loc main_arg1) (ix2 r (i 1))) (fun r => m ((c : Thread nD τ).loc main_arg2) (ix2 r (i 1)))
    (fun r => m ((c : Thread nD τ).loc main_arg3) (ix2 r (i 1))) (fun r => m ((c : Thread nD τ).loc main_arg4) (ix2 r (i 1)))
    (fun r => m ((c : Thread nD τ).loc main_arg5) (ix2 r (i 1)))

/-- What the body stores is the product, entry by entry. -/
theorem point (c : Dev nD) (t : Fin cfg0.N) (b : Fin 48) (j : Fin 8192) :
    out0_7 (iblk m c 0 t) (iblk m c 1 t) (iblk m c 2 t) (iblk m c 3 t) (iblk m c 4 t) (iblk m c 5 t) (iblk m c 6 t) (ix2 b j)
      = product m c (ix2 b j) := by
  have hz : (![0, 0] : Fin 2 → Nat) = fun _ => 0 := by decide
  unfold out0_7
  rw [View.canon_unit_zero hz]
  simp only [View.ld_unit_zero (S := S48x5632) hz, View.ld_unit_zero (S := S5632x8192) hz,
    View.ld_unit_zero (S := S44x8192) hz, View.ld_unit_zero (S := S352x8192) hz]
  rw [pay1_apply]
  simp only [low_apply, high_apply, blk0, blk1, blk2, blk3, blk4, blk5, blk6]
  exact (column_halves (fun k => m ((c : Thread nD τ).loc main_arg0) (ix3 b 0 (depth k)))
    (fun r => m ((c : Thread nD τ).loc main_arg1) (ix2 r j)) (fun r => m ((c : Thread nD τ).loc main_arg2) (ix2 r j))
    (fun r => m ((c : Thread nD τ).loc main_arg3) (ix2 r j)) (fun r => m ((c : Thread nD τ).loc main_arg4) (ix2 r j))
    (fun r => m ((c : Thread nD τ).loc main_arg5) (ix2 r j))).symm

/-- THE RESULT ARRAY ends holding the product: its one block is the whole array. -/
theorem final (c : Dev nD) : (dats m 0 c).arrAt 7 cfg0.N = product m c := by
  refine (dats m 0 c).arrAt_eq_of_covers 7 _ (by decide +kernel) fun t hf y => ?_
  blk_simp
  rw [after0_7]
  obtain ⟨b, j, rfl⟩ : ∃ b j, y = ix2 b j := ⟨y 0, y 1, (eq_ix2 y)⟩
  refine (point m c t b j).trans (congrArg (product m c) ?_)
  have := idx t
  blk_ext [this]

end Cert.ReferenceIdeal.Whole

end
-- ==== Proof.lean ====
/- All that is claimed of the kernel, put together from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Array
public import proofs.«01_k».proof.Proof.Reference
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The two products are one function of arguments that agree. -/
theorem product_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Whole.product m' c = Cert.KernelIdeal.Array.product m c := by
  funext i
  unfold Cert.ReferenceIdeal.Whole.product Cert.KernelIdeal.Array.product
  rw [h0, h1, h2, h3, h4, h5]

/-- The kernel's result array and the reference's end equal, whatever the arguments. -/
theorem algebraic : Cert.algebraic_KernelIdeal_ReferenceIdeal := by
  intro m ρ m' ρ' _ hagree
  refine ⟨fun c => Cert.KernelIdeal.Array.product m c, ?_, ?_⟩
  · exact (θ_run Cert.KernelIdeal.defs _ _).mono
      (fun _ h c => ⟨(h c).1.trans (Cert.KernelIdeal.Array.final m c), (h c).2⟩)
      (Cert.KernelIdeal.Value.run_blocks (F := Ideal) m ρ)
  · refine (θ_run Cert.ReferenceIdeal.defs _ _).mono
      (fun _ h c => ⟨(h c).1.trans ((Cert.ReferenceIdeal.Whole.final m' c).trans ?_), (h c).2⟩)
      (Cert.ReferenceIdeal.Value.run_blocks (F := Ideal) m' ρ')
    obtain ⟨h0, h1, h2, h3, h4, h5⟩ := hagree c
    exact product_eq m m' c h0 h1 h2 h3 h4 h5

/-- Everything claimed: the three frames, the rewriting of packed pairs, and the equality of the results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ,
  ⟨IdealRules.bf16_pair.statement _ _, IdealRules.bf16_pair.statement _ _⟩, algebraic⟩

end Cert.Proof

end
